-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_thermometer [hPre_thermometer : Cert.Pre_thermometer.Facts] (m : (ℓ : Loc Cert.KernelIdeal.nD Cert.KernelIdeal.τ Cert.KernelIdeal.sig) → Buf (Elt Ideal) ℓ) : Prop :=
  ∀ c : Dev Cert.KernelIdeal.nD,
    (Cert.Pre_thermometer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_thermometer [hPre_thermometer : Cert.Pre_thermometer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_thermometer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_thermometer [hKernelIdeal : Cert.KernelIdeal.Facts] [hPre_thermometer : Cert.Pre_thermometer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_thermometer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_thermometer [hReferenceIdeal : Cert.ReferenceIdeal.Facts] [hPre_thermometer : Cert.Pre_thermometer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_thermometer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_thermometer [hKernelIdeal : Cert.KernelIdeal.Facts] [hReferenceIdeal : Cert.ReferenceIdeal.Facts] [hPre_thermometer : Cert.Pre_thermometer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_thermometer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_thermometer : Cert.Pre_thermometer.Facts),
    quiescent_Kernel (hKernel := hKernel)
    ∧ quiescent_KernelIdeal (hKernelIdeal := hKernelIdeal)
    ∧ quiescent_KernelIdeal_pre_thermometer (hKernelIdeal := hKernelIdeal) (hPre_thermometer := hPre_thermometer)
    ∧ quiescent_ReferenceIdeal (hReferenceIdeal := hReferenceIdeal)
    ∧ quiescent_ReferenceIdeal_pre_thermometer (hReferenceIdeal := hReferenceIdeal) (hPre_thermometer := hPre_thermometer)
    ∧ preserves_Kernel_KernelIdeal
    ∧ algebraic_KernelIdeal_ReferenceIdeal_pre_thermometer (hKernelIdeal := hKernelIdeal) (hReferenceIdeal := hReferenceIdeal) (hPre_thermometer := hPre_thermometer)
-- ==== Pre_thermometer.lean ====
abbrev S1024x26 : Shape := ⟨2, ![1024, 26]⟩
abbrev S26x2048 : Shape := ⟨2, ![26, 2048]⟩
abbrev S2049x2048 : Shape := ⟨2, ![2049, 2048]⟩
abbrev S_ : Shape := ⟨0, ![]⟩

class Facts : Prop where
  bcast_S_S2049x2048 : S_.BroadcastsInDim S2049x2048 (![] : Fin 0 → Fin S2049x2048.rank)
  reducesTo_S2049x2048_S_d0_1 : S2049x2048.ReducesTo [0, 1] S_
  h_S_ : 0 < S_.numel
  bcast_S_S26x2048 : S_.BroadcastsInDim S26x2048 (![] : Fin 0 → Fin S26x2048.rank)
  reducesTo_S26x2048_S_d0_1 : S26x2048.ReducesTo [0, 1] S_

variable [Facts]

def fn_where {F : FTy → Type} [FloatOps F] (arg0 : IVec S2049x2048 1) (arg1 : FVec F S_ .f32) (arg2 : FVec F S_ .f32) : FVec F S2049x2048 .f32 :=
  let v0 : FVec F S2049x2048 .f32 := broadcastInDim S2049x2048 ![] bcast_S_S2049x2048 arg1
  let v1 : FVec F S2049x2048 .f32 := broadcastInDim S2049x2048 ![] bcast_S_S2049x2048 arg2
  let v2 : FVec F S2049x2048 .f32 := select arg0 v0 v1
  v2

def fn {F : FTy → Type} [FloatOps F] (main_arg0 : FVec F S1024x26 .f32) (main_arg1 : FVec F S26x2048 .f32) (main_arg2 : FVec F S2049x2048 .f32) : IVec S_ 1 :=
  let main_v0 : IVec S2049x2048 32 := iotaInDim S2049x2048 32 0
  let main_v1 : IVec S2049x2048 32 := iotaInDim S2049x2048 32 1
  let main_v2 : IVec S2049x2048 1 := cmpi .slt main_v1 main_v0
  let main_cst : FVec F S_ .f32 := constant S_ .f32 0x3F800000#32
  let main_cst_0 : FVec F S_ .f32 := constant S_ .f32 0xBF800000#32
  let main_v3 : FVec F S2049x2048 .f32 := fn_where (F := F) main_v2 main_cst main_cst_0
  let main_v4 : IVec S2049x2048 1 := cmpf .oeq main_arg2 main_v3
  let main_c : IVec S_ 1 := constantI S_ 1 1#1
  let main_v5 : IVec S_ 1 := (fun x v => Host.reduce IntOp.andi x v reducesTo_S2049x2048_S_d0_1 h_S_) main_v4 main_c
  let main_cst_1 : FVec F S_ .f32 := constant S_ .f32 0x7F800000#32
  let main_v6 : FVec F S26x2048 .f32 := broadcastInDim S26x2048 ![] bcast_S_S26x2048 main_cst_1
  let main_v7 : IVec S26x2048 1 := cmpf .olt main_arg1 main_v6
  let main_c_2 : IVec S_ 1 := constantI S_ 1 1#1
  let main_v8 : IVec S_ 1 := (fun x v => Host.reduce IntOp.andi x v reducesTo_S26x2048_S_d0_1 h_S_) main_v7 main_c_2
  let main_v9 : IVec S_ 1 := andi main_v5 main_v8
  main_v9
-- ==== Kernel.lean ====
abbrev S1024x26 : Shape := ⟨2, ![1024, 26]⟩
abbrev S26x2048 : Shape := ⟨2, ![26, 2048]⟩
abbrev S2049x2048 : Shape := ⟨2, ![2049, 2048]⟩
abbrev S1024x2048 : Shape := ⟨2, ![1024, 2048]⟩
abbrev S256x26 : Shape := ⟨2, ![256, 26]⟩
abbrev S256x2048 : Shape := ⟨2, ![256, 2048]⟩
abbrev S256x1 : Shape := ⟨2, ![256, 1]⟩
abbrev S256x256 : Shape := ⟨2, ![256, 256]⟩
abbrev S2048 : Shape := ⟨1, ![2048]⟩
abbrev S1x2048 : Shape := ⟨2, ![1, 2048]⟩
abbrev S26x256 : Shape := ⟨2, ![26, 256]⟩
abbrev S1x256 : Shape := ⟨2, ![1, 256]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S1024x26, .f32⟩
  | .hbm, ⟨1, _⟩ => ⟨S26x2048, .f32⟩
  | .hbm, ⟨2, _⟩ => ⟨S2049x2048, .f32⟩
  | .hbm, ⟨3, _⟩ => ⟨S1024x2048, .f32⟩
  | .local _ .vmem, ⟨0, _⟩ => ⟨S256x26, .f32⟩
  | .local _ .vmem, ⟨1, _⟩ => ⟨S256x26, .f32⟩
  | .local _ .vmem, ⟨2, _⟩ => ⟨S26x2048, .f32⟩
  | .local _ .vmem, ⟨3, _⟩ => ⟨S256x2048, .f32⟩
  | .local _ .vmem, ⟨4, _⟩ => ⟨S256x2048, .f32⟩
  | _, _ => ⟨S1024x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x26 : Shape := ⟨2, ![1024, 26]⟩
abbrev S26x2048 : Shape := ⟨2, ![26, 2048]⟩
abbrev S2049x2048 : Shape := ⟨2, ![2049, 2048]⟩
abbrev S_ : Shape := ⟨0, ![]⟩
abbrev S1024x26x1 : Shape := ⟨3, ![1024, 26, 1]⟩
abbrev S1 : Shape := ⟨1, ![1]⟩
abbrev S1x1x1 : Shape := ⟨3, ![1, 1, 1]⟩
abbrev S1024x26x2048 : Shape := ⟨3, ![1024, 26, 2048]⟩
abbrev S1x26x2048 : Shape := ⟨3, ![1, 26, 2048]⟩
abbrev S1024x2048 : Shape := ⟨2, ![1024, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1024x26, .f32⟩
  | .hbm, ⟨1, _⟩ => ⟨S26x2048, .f32⟩
  | .hbm, ⟨2, _⟩ => ⟨S2049x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x26, .f32⟩
  | .hbm, ⟨7, _⟩ => ⟨S1024x26, .f32⟩
  | .hbm, ⟨8, _⟩ => ⟨S_, .f32⟩
  | .hbm, ⟨9, _⟩ => ⟨S1024x26, .f32⟩
  | .hbm, ⟨10, _⟩ => ⟨S1024x26, .f32⟩
  | .hbm, ⟨11, _⟩ => ⟨S_, .f32⟩
  | .hbm, ⟨12, _⟩ => ⟨S1024x26, .f32⟩
  | .hbm, ⟨13, _⟩ => ⟨S1024x26, .f32⟩
  | .hbm, ⟨14, _⟩ => ⟨S_, .f32⟩
  | .hbm, ⟨15, _⟩ => ⟨S1024x26, .f32⟩
  | .hbm, ⟨16, _⟩ => ⟨S1024x26, .f32⟩
  | .hbm, ⟨17, _⟩ => ⟨S_, .f32⟩
  | .hbm, ⟨18, _⟩ => ⟨S1024x26, .f32⟩
  | .hbm, ⟨19, _⟩ => ⟨S1024x26, .f32⟩
  | .hbm, ⟨20, _⟩ => ⟨S1024x26, .f32⟩
  | .hbm, ⟨21, _⟩ => ⟨S1024x26, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x26, .i32⟩
  | .hbm, ⟨26, _⟩ => ⟨S1024x26, .i32⟩
  | .hbm, ⟨27, _⟩ => ⟨S_, .i32⟩
  | .hbm, ⟨28, _⟩ => ⟨S1024x26, .i32⟩
  | .hbm, ⟨29, _⟩ => ⟨S1024x26, .i32⟩
  | .hbm, ⟨30, _⟩ => ⟨S_, .i32⟩
  | .hbm, ⟨31, _⟩ => ⟨S1024x26, .i32⟩
  | .hbm, ⟨32, _⟩ => ⟨S1024x26, .i1⟩
  | .hbm, ⟨33, _⟩ => ⟨S_, .i32⟩
  | .hbm, ⟨34, _⟩ => ⟨S1024x26, .i32⟩
  | .hbm, ⟨35, _⟩ => ⟨S1024x26, .i32⟩
  | .hbm, ⟨36, _⟩ => ⟨S1024x26, .i32⟩
  | .hbm, ⟨37, _⟩ => ⟨S1024x26x1, .i32⟩
  | .hbm, ⟨38, _⟩ => ⟨S1, .i32⟩
  | .hbm, ⟨39, _⟩ => ⟨S_, .i32⟩
  | .hbm, ⟨40, _⟩ => ⟨S1024x26x1, .i32⟩
  | .hbm, ⟨41, _⟩ => ⟨S1024x26x1, .i1⟩
  | .hbm, ⟨42, _⟩ => ⟨S1x1x1, .i32⟩
  | .hbm, ⟨43, _⟩ => ⟨S1024x26x1, .i32⟩
  | .hbm, ⟨44, _⟩ => ⟨S1024x26x1, .i1⟩
  | .hbm, ⟨45, _⟩ => ⟨S1024x26x1, .i1⟩
  | .hbm, ⟨46, _⟩ => ⟨S_, .i1⟩
  | .hbm, ⟨47, _⟩ => ⟨S1024x26, .i1⟩
  | .hbm, ⟨48, _⟩ => ⟨S1024x26x2048, .f32⟩
  | .hbm, ⟨49, _⟩ => ⟨S1024x26x2048, .i1⟩
  | .hbm, ⟨50, _⟩ => ⟨S_, .f32⟩
  | .hbm, ⟨51, _⟩ => ⟨S1024x26x2048, .f32⟩
  | .hbm, ⟨52, _⟩ => ⟨S1024x26x2048, .f32⟩
  | .hbm, ⟨53, _⟩ => ⟨S1x26x2048, .f32⟩
  | .hbm, ⟨54, _⟩ => ⟨S1024x26x2048, .f32⟩
  | .hbm, ⟨55, _⟩ => ⟨S1024x26x2048, .f32⟩
  | .hbm, ⟨56, _⟩ => ⟨S_, .f32⟩
  | .hbm, ⟨57, _⟩ => ⟨S1024x2048, .f32⟩
  | _, _ => ⟨S1024x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_c_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v9 : Ref sig .tc := ⟨.hbm, 29, rfl⟩
abbrev main_call3_c : Ref sig .tc := ⟨.hbm, 30, rfl⟩
abbrev main_call3_v0 : Ref sig .tc := ⟨.hbm, 31, rfl⟩
abbrev main_call3_v1 : Ref sig .tc := ⟨.hbm, 32, rfl⟩
abbrev main_call3_c_0 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_c_1 : Ref sig .tc := ⟨.hbm, 38, rfl⟩
abbrev main_call3_c_2 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_v11 : Ref sig .tc := ⟨.hbm, 45, rfl⟩
abbrev main_call3_c_3 : Ref sig .tc := ⟨.hbm, 46, rfl⟩
abbrev main_call3_v12 : Ref sig .tc := ⟨.hbm, 47, rfl⟩
abbrev main_call3_v13 : Ref sig .tc := ⟨.hbm, 48, rfl⟩
abbrev main_call3_v14 : Ref sig .tc := ⟨.hbm, 49, rfl⟩
abbrev main_call3_cst : Ref sig .tc := ⟨.hbm, 50, rfl⟩
abbrev main_call3_v15 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_5 : Ref sig .tc := ⟨.hbm, 56, rfl⟩
abbrev main_v14 : Ref sig .tc := ⟨.hbm, 57, rfl⟩

abbrev nD : Nat := 1
abbrev τ : Topo := Topo.v7x

variable {F : FTy → Type} [FloatOps F]
-- ==== Proof.Chunk.lean ====
/-
  One step of the kernel writes a 256 × 2048 block of the result as eight chunks of 256 columns. The eight chunks run
  the same text at eight column offsets, and inside a chunk the 26 features run the same text at 26 rows of the keys.
  This file states that text ONCE — `gate` for a feature, `sums` for the running sum, `chunk` for a chunk — and shows
  that the block the step leaves is the eight chunks side by side (`out_eq`).
-/
module

public import proofs.«01_k».proof.Proof.Gen.KernelIdeal.Frame

@[expose] public section

noncomputable section

namespace Cert.Density

open Cert.KernelIdeal Cert.KernelIdeal.Gen Idealize.ShloMosaic Idealize.ShloMosaic.TcCoe
open Idealize.ShloMosaic.Rounds

variable {F : FTy → Type} [FloatOps F]

/-- Column `j` of a 256 × 26 array is a slice of it. -/
theorem col_slices (j : Fin 26) : S256x26.Slices ![0, j.val] S256x1 :=
  ⟨rfl, Fin.forall_fin_two.2 ⟨Nat.le_refl _, by have := j.isLt; show j.val + 1 ≤ 26; omega⟩⟩

/-- Row `j` of a 26 × 256 array is a slice of it. -/
theorem row_slices (j : Fin 26) : S26x256.Slices ![j.val, 0] S1x256 :=
  ⟨rfl, Fin.forall_fin_two.2 ⟨by have := j.isLt; show j.val + 1 ≤ 26; omega, Nat.le_refl _⟩⟩

/-- The 256 columns from `256 c` of a 26 × 2048 array are a slice of it. -/
theorem keys_slices (c : Fin 8) : S26x2048.Slices ![0, 256 * c.val] S26x256 :=
  ⟨rfl, Fin.forall_fin_two.2 ⟨Nat.le_refl _, by have := c.isLt; show 256 * c.val + 256 ≤ 2048; omega⟩⟩

/-- The 256 columns from `256 c` of a 1 × 2048 array are a slice of it. -/
theorem half_slices (c : Fin 8) : S1x2048.Slices ![0, 256 * c.val] S1x256 :=
  ⟨rfl, Fin.forall_fin_two.2 ⟨Nat.le_refl _, by have := c.isLt; show 256 * c.val + 256 ≤ 2048; omega⟩⟩

/-- The 256 columns from `256 c` of the 256 × 2048 block lie inside it. -/
theorem chunk_inb (c : Fin 8) : ∀ a, (![0, 256 * c.val] : Fin 2 → Nat) a + S256x256.size a ≤ S256x2048.size a :=
  Fin.forall_fin_two.2 ⟨Nat.le_refl _, by have := c.isLt; show 256 * c.val + 256 ≤ 2048; omega⟩

/-- Where chunk `c` of a block is written: all 256 rows of the 256 columns from `256 c`. -/
abbrev chunkRect (c : Fin 8) : Rect S256x2048 := Rect.unit (s := S256x2048) ![0, 256 * c.val] S256x256.size (chunk_inb c)

/-- The levels of feature `j`, one per row of the block, repeated across the chunk's columns. -/
def levels (x : Vec F S256x26 .f32) (j : Fin 26) : IVec S256x256 16 :=
  broadcastTo S256x256 (shapeCast S256x1 (extractStridedSlice S256x1 ![0, j.val] (k0_pay2 (View.ld x r0_0)) (col_slices j))
    shapeCasts_S256x1_S256x1) broadcasts_S256x1_S256x256

/-- The column numbers of chunk `c`. -/
def columns (c : Fin 8) : IVec S256x256 16 :=
  addi (iota .tc S256x256 16 [1] iota_S256x256_d1_w16) (broadcast S256x256 (BitVec.ofNat 16 (256 * c.val)))

/-- The keys of chunk `c`. -/
def keys (k : Vec F S26x2048 .f32) (c : Fin 8) : FVec F S26x256 .bf16 :=
  extractStridedSlice S26x256 ![0, 256 * c.val] (k0_pay29 (View.ld k r0_1)) (keys_slices c)

/-- Half of the keys' sum over the features, at chunk `c`'s columns, the same for every row. -/
def half (k : Vec F S26x2048 .f32) (c : Fin 8) : FVec F S256x256 .bf16 :=
  broadcastTo S256x256 (extractStridedSlice S1x256 ![0, 256 * c.val] (k0_pay30 (View.ld k r0_1)) (half_slices c))
    broadcasts_S1x256_S256x256

/-- Feature `j`'s key where the column number is below the feature's level, zero elsewhere. -/
def gate (x : Vec F S256x26 .f32) (k : Vec F S26x2048 .f32) (c : Fin 8) (j : Fin 26) : FVec F S256x256 .bf16 :=
  select (cmpi .slt (columns c) (levels x j))
    (broadcastTo S256x256 (shapeCast S1x256 (shapeCast S256 (extractStridedSlice S1x256 ![j.val, 0] (keys k c) (row_slices j))
      shapeCasts_S1x256_S256) shapeCasts_S256_S1x256) broadcasts_S1x256_S256x256)
    (broadcast S256x256 (Scalar.ofBits .bf16 0x0000#16))

/-- The running sum after feature `n`: feature 0's gated key less half the keys' sum, then the other features' gated keys. -/
def sums (x : Vec F S256x26 .f32) (k : Vec F S26x2048 .f32) (c : Fin 8) : (n : ℕ) → n < 26 → FVec F S256x256 .bf16
  | 0, h => subf (gate x k c ⟨0, h⟩) (half k c)
  | n + 1, h => addf (sums x k c n (Nat.lt_of_succ_lt h)) (gate x k c ⟨n + 1, h⟩)

/-- A chunk: twice the running sum after the last feature. -/
def chunk (x : Vec F S256x26 .f32) (k : Vec F S26x2048 .f32) (c : Fin 8) : FVec F S256x256 .f32 :=
  extf .f32 (addf (sums x k c 25 (by decide)) (sums x k c 25 (by decide))) bitsLt_bf16_f32

/-- The eight chunks with the places they are written at, the last one first. -/
abbrev pieces (x : Vec F S256x26 .f32) (k : Vec F S26x2048 .f32) : List (View.Piece (Elt F) S256x2048 .f32) :=
  [7, 6, 5, 4, 3, 2, 1, 0].map fun c => ⟨chunkRect c, chunk x k c⟩

/-- What a step leaves in the block is the eight chunks. -/
theorem out_eq (x : Vec F S256x26 .f32) (k : Vec F S26x2048 .f32) : out0_2 x k = View.canon (pieces x k) := by
  rfl

end Cert.Density

end
-- ==== Proof.Level.lean ====
/-
  The level of a feature: its value clipped to [0, 1], times 2048, rounded to the nearest integer, ties to even. For
  every extended real it is a natural number at most 2048, so the kernel's 16-bit word and the reference's 32-bit word
  hold the same number, and neither's second clip changes it.
-/
module

public import Idealize.ShloMosaic.Lib.Pointwise

@[expose] public section

noncomputable section

namespace Cert.Density

open Idealize.ShloMosaic

/-- The f32 pattern `0x45000000` is the real 2048. -/
theorem bits_2048 : Ideal.ofBits .f32 0x45000000#32 = ((2048 : ℝ) : EReal) := by
  simp [Ideal.ofBits, Ideal.ieee, -EReal.coe_mul]; norm_num

/-- Rounding a real between 0 and 2048 to the nearest integer gives a natural number at most 2048. -/
theorem roundHalfEven_mem {r : ℝ} (h0 : 0 ≤ r) (h1 : r ≤ 2048) :
    0 ≤ Ideal.roundHalfEven r ∧ Ideal.roundHalfEven r ≤ 2048 := by
  have hf0 : 0 ≤ ⌊r⌋ := Int.floor_nonneg.2 h0
  have hf1 : ⌊r⌋ ≤ 2048 := by exact_mod_cast (Int.floor_le r).trans h1
  have hr : (2048 : ℤ) ≤ ⌊r⌋ → r - ⌊r⌋ < 1 / 2 := fun h => by
    have h' : (2048 : ℝ) ≤ ⌊r⌋ := by exact_mod_cast h
    linarith
  unfold Ideal.roundHalfEven
  dsimp only
  split_ifs with h2 h3 h4
  · exact ⟨hf0, hf1⟩
  · exact ⟨by omega, by by_contra hc; exact h2 (hr (by omega))⟩
  · exact ⟨hf0, hf1⟩
  · exact ⟨by omega, by by_contra hc; exact h2 (hr (by omega))⟩

/-- An extended real clipped to [0, 1], times 2048, rounded. -/
def scaled (v : EReal) : EReal :=
  Ideal.liftRound Ideal.roundHalfEven (min 1 (max 0 v) * ((2048 : ℝ) : EReal))

/-- It is a natural number at most 2048. -/
theorem exists_level (v : EReal) : ∃ n : ℕ, n ≤ 2048 ∧ scaled v = ((n : ℝ) : EReal) := by
  obtain ⟨r, hr, h0, h1⟩ : ∃ r : ℝ, min 1 (max 0 v) = (r : EReal) ∧ 0 ≤ r ∧ r ≤ 1 := by
    have h0 : (0 : EReal) ≤ min 1 (max 0 v) := le_min zero_le_one (le_max_left _ _)
    have h1 : min 1 (max 0 v) ≤ (1 : EReal) := min_le_left _ _
    generalize min 1 (max 0 v) = w at h0 h1
    induction w with
    | bot => exact absurd h0 (by simp)
    | top => exact absurd (top_le_iff.1 h1) (by exact EReal.coe_ne_top 1)
    | coe r => exact ⟨r, rfl, by exact_mod_cast h0, by exact_mod_cast h1⟩
  obtain ⟨hn0, hn1⟩ := roundHalfEven_mem (r := r * 2048) (by positivity) (by linarith)
  obtain ⟨n, hn⟩ := Int.eq_ofNat_of_zero_le hn0
  refine ⟨n, by omega, ?_⟩
  rw [scaled, hr, ← EReal.coe_mul, Ideal.liftRound_coe, hn]
  norm_cast

/-- The level of a feature's value. -/
def level (v : EReal) : ℕ := (exists_level v).choose

/-- It is at most 2048. -/
theorem level_le (v : EReal) : level v ≤ 2048 := (exists_level v).choose_spec.1

/-- It is what the clipped, scaled and rounded value is. -/
theorem scaled_eq (v : EReal) : scaled v = ((level v : ℝ) : EReal) := (exists_level v).choose_spec.2

/-- A natural number that fits below the sign bit converts to its own word. -/
theorem fptosi_natCast {w n : ℕ} (h : n < 2 ^ (w - 1)) : Ideal.fptosi w ((n : ℝ) : EReal) = BitVec.ofNat w n := by
  rw [Ideal.fptosi, Ideal.toIntClamped_coe, if_pos (Nat.cast_nonneg n), Int.floor_natCast,
    min_eq_right (by omega), max_eq_right (by omega)]
  exact BitVec.ofInt_natCast w n

/-- The kernel's word: the second clip does nothing, and the 16-bit conversion keeps the level. -/
theorem word16 (v : EReal) :
    Ideal.fptosi 16 (min ((2048 : ℝ) : EReal) (max 0 (scaled v))) = BitVec.ofNat 16 (level v) := by
  have h := level_le v
  rw [scaled_eq, max_eq_right (by exact_mod_cast Nat.zero_le _), min_eq_right (by exact_mod_cast h)]
  exact fptosi_natCast (by norm_num; omega)

/-- The reference's word: the 32-bit conversion keeps the level. -/
theorem word32 (v : EReal) : Ideal.fptosi 32 (scaled v) = BitVec.ofNat 32 (level v) := by
  have h := level_le v
  rw [scaled_eq]
  exact fptosi_natCast (by norm_num; omega)

end Cert.Density

end
-- ==== Proof.Cell.lean ====
/-
  One element of the block a step writes. Over the extended reals, the element at row `r` and column `d` depends on the
  26 levels of row `r` and the 26 keys of column `d` only (`cell`), whatever chunk the column is in (`out_block`).
-/
module

public import proofs.«01_k».proof.Proof.Chunk
public import proofs.«01_k».proof.Proof.Level
public import Idealize.ShloMosaic.Lib.Pipeline.ValueKit
public import Idealize.ShloMosaic.Lib.WordCmp

@[expose] public section

noncomputable section

namespace Cert.Density

open Cert.KernelIdeal Cert.KernelIdeal.Gen Idealize.ShloMosaic Idealize.ShloMosaic.TcCoe
open Idealize.ShloMosaic.Rounds

/-- The bf16 pattern `0x3F00` is the real 1/2. -/
theorem bits_half : Ideal.ofBits .bf16 0x3F00#16 = ((1 / 2 : ℝ) : EReal) := by
  simp [Ideal.ofBits, Ideal.ieee, -EReal.coe_mul]; norm_num

/-- The running sum at one element: `on 0 - h + on 1 + … + on n`. -/
def run (on : Fin 26 → EReal) (h : EReal) : (n : ℕ) → n < 26 → EReal
  | 0, hn => on ⟨0, hn⟩ - h
  | n + 1, hn => run on h n (Nat.lt_of_succ_lt hn) + on ⟨n + 1, hn⟩

/-- Half of the 26 keys' sum: what the running sum starts by subtracting. -/
def halfSum (key : Fin 26 → EReal) : EReal := (∑ j, key j) * ((1 / 2 : ℝ) : EReal)

/-- Feature `j`'s key where the column `d` is below the feature's level, zero elsewhere. -/
def gated (lev : Fin 26 → ℕ) (key : Fin 26 → EReal) (d : ℕ) (j : Fin 26) : EReal := if d < lev j then key j else 0

/-- The kernel's element at column `d`, of the row's levels and the column's keys: the gated keys less half of the keys'
    sum, doubled. -/
def cell (lev : Fin 26 → ℕ) (key : Fin 26 → EReal) (d : ℕ) : EReal :=
  run (gated lev key d) (halfSum key) 25 (by decide) + run (gated lev key d) (halfSum key) 25 (by decide)

/-- Column `l` of chunk `c`, as a column of the block. -/
abbrev column (c : Fin 8) (l : Fin 256) : Fin 2048 := ⟨256 * c.val + l.val, by omega⟩

/-- The levels the kernel compares with, at row `r`: feature `j`'s level there, as a 16-bit word. -/
theorem levels_apply (x : Vec Ideal S256x26 (.f32)) (j : Fin 26) (r l : Fin 256) :
    levels (F := Ideal) x j (ix2 r l) = BitVec.ofNat 16 (level (x (ix2 r j))) := by
  pointwise [levels, k0_pay2]
  rw [bits_2048]
  exact word16 _

/-- What the kernel subtracts first is half of the keys' sum. -/
theorem half_apply (k : Vec Ideal S26x2048 (.f32)) (c : Fin 8) (r l : Fin 256) :
    (half (F := Ideal) k c (ix2 r l) : EReal) = halfSum fun j => k (ix2 j (column c l)) := by
  pointwise [half, k0_pay30, k0_pay29]
  rw [bits_half]
  rfl

/-- A select of the signed 16-bit comparison `l + o < n` of small numbers is a choice by the numbers. -/
theorem select_slt (l o n : ℕ) (hl : l + o < 2 ^ 15) (hn : n < 2 ^ 15) (a b : EReal) :
    Scalar.select (IntOp.cmpi .slt (IntOp.addi (BitVec.ofNat 16 l) (BitVec.ofNat 16 o)) (BitVec.ofNat 16 n)) a b
      = if o + l < n then a else b := by
  rw [show IntOp.addi (BitVec.ofNat 16 l) (BitVec.ofNat 16 o) = BitVec.ofNat 16 (l + o) from (BitVec.ofNat_add l o).symm,
    Scalar.select]
  refine if_congr ((WordCmp.cmpi_slt_ofNat_eq_one_iff (w := 16) hl hn).trans ?_) rfl rfl
  rw [Nat.add_comm]

/-- What the kernel adds for feature `j` is the feature's gated key. -/
theorem gate_apply (x : Vec Ideal S256x26 (.f32)) (k : Vec Ideal S26x2048 (.f32)) (c : Fin 8) (j : Fin 26) (r l : Fin 256) :
    (gate (F := Ideal) x k c j (ix2 r l) : EReal)
      = gated (fun j => level (x (ix2 r j))) (fun j => k (ix2 j (column c l))) (column c l) j := by
  have hn := level_le (x (ix2 r j))
  pointwise [gate, keys, columns, k0_pay29, levels_apply]
  exact select_slt l (256 * c) _ (by omega) (by omega) _ _

/-- The kernel's running sums are the running sum of the gated keys. -/
theorem sums_apply (x : Vec Ideal S256x26 (.f32)) (k : Vec Ideal S26x2048 (.f32)) (c : Fin 8) (r l : Fin 256) :
    ∀ (n : ℕ) (hn : n < 26), (sums (F := Ideal) x k c n hn (ix2 r l) : EReal)
      = run (gated (fun j => level (x (ix2 r j))) (fun j => k (ix2 j (column c l))) (column c l))
          (halfSum fun j => k (ix2 j (column c l))) n hn
  | 0, _ => congrArg₂ (fun a b : EReal => a - b) (gate_apply x k c _ r l) (half_apply k c r l)
  | n + 1, hn => congrArg₂ (fun a b : EReal => a + b) (sums_apply x k c r l n (Nat.lt_of_succ_lt hn)) (gate_apply x k c _ r l)

/-- The block a step writes: at row `r` and column `d`, the element of the row's levels and the column's keys. -/
def block (x : Vec Ideal S256x26 (.f32)) (k : Vec Ideal S26x2048 (.f32)) : Vec Ideal S256x2048 (.f32) := fun y =>
  cell (fun j => level (x (ix2 (y 0) j))) (fun j => k (ix2 j (y 1))) (y 1).val

/-- Each chunk holds its columns of that block. -/
theorem chunk_apply (x : Vec Ideal S256x26 (.f32)) (k : Vec Ideal S26x2048 (.f32)) (c : Fin 8) (z : (chunkRect c).shape.Idx) :
    chunk (F := Ideal) x k c z = block x k ((chunkRect c).emb z) := by
  obtain ⟨r, l, rfl⟩ : ∃ r l : Fin 256, z = ix2 r l := ⟨z 0, z 1, by idx_vars z⟩
  have e : (chunkRect c).emb (ix2 r l) = ix2 r (column c l) := by
    funext a
    refine Fin.ext ?_
    rw [ValueKit.rect_emb_unit_val]
    match a with
    | ⟨0, _⟩ => exact Nat.zero_add _
    | ⟨1, _⟩ => rfl
  rw [e]
  exact congrArg₂ (fun a b : EReal => a + b) (sums_apply x k c r l 25 (by decide)) (sums_apply x k c r l 25 (by decide))

/-- What a step leaves in the block is that block. -/
theorem out_block (x : Vec Ideal S256x26 (.f32)) (k : Vec Ideal S26x2048 (.f32)) : out0_2 (F := Ideal) x k = block x k := by
  rw [out_eq]
  funext y
  refine View.canon_apply_of_pieces (block x k) (pieces x k) (fun p hp z => ?_) y (cover0_2 _ _ _ _ _ _ _ _ y)
  obtain ⟨c, -, rfl⟩ := List.mem_map.1 hp
  exact chunk_apply x k c z

end Cert.Density

end
-- ==== Proof.Array.lean ====
/-
  What the kernel leaves in its result. Step `t` reads rows 256 t … 256 t + 255 of the features and all of the keys, and
  writes the same rows of the result; the steps' blocks cover it.
-/
module

public import proofs.«01_k».proof.Proof.Cell
public import proofs.«01_k».proof.Proof.Gen.KernelIdeal.Value

@[expose] public section

noncomputable section

namespace Cert.Density

open Cert.KernelIdeal Cert.KernelIdeal.Gen Idealize.ShloMosaic Idealize.ShloMosaic.TcCoe

/-- The kernel's result: at row `b` and column `d`, the element of the row's levels and the column's keys. -/
def result (x : Vec Ideal S1024x26 (.f32)) (k : Vec Ideal S26x2048 (.f32)) : Vec Ideal S1024x2048 (.f32) := fun i =>
  cell (fun j => level (x (ix2 (i 0) j))) (fun j => k (ix2 j (i 1))) (i 1).val

variable (m : (ℓ : Loc nD τ sig) → Buf (Elt Ideal) ℓ) (c : Dev nD)

/-- Step `t` stages the `t`-th block of rows of the features, … -/
theorem index_x : ∀ t : Fin cfg0.N, win0_0.index t = ![t.val, 0] :=
  (by decide +kernel : ∀ t : Fin grid0.N, win0_0.index t = ![t.val, 0])

/-- … the keys' only block, … -/
theorem index_k : ∀ t : Fin cfg0.N, win0_1.index t = ![0, 0] :=
  (by decide +kernel : ∀ t : Fin grid0.N, win0_1.index t = ![0, 0])

/-- … and the `t`-th block of rows of the result. -/
theorem index_o : ∀ t : Fin cfg0.N, win0_2.index t = ![t.val, 0] :=
  (by decide +kernel : ∀ t : Fin grid0.N, win0_2.index t = ![t.val, 0])

/-- The result array after the kernel, as a function of the features and the keys it was launched on. -/
theorem final : (dats m 0 c).arrAt 2 cfg0.N = result (V m c main_arg0) (V m c main_arg1) := by
  refine (dats m 0 c).arrAt_eq_of_covers 2 _ (by decide +kernel) fun t hf y => ?_
  blk_simp
  rw [after0_2, out_block]
  unfold block result
  have hx : ∀ j : Fin 26, (iblk m c 0 t : Vec Ideal S256x26 (.f32)) (ix2 (y 0) j)
      = V m c main_arg0 (ix2 ((win0_2.blk t).view.emb y 0) j) := fun j => by
    blk_simp [iblk, index_x]
    refine congrArg _ ?_
    blk_ext [index_x, index_o]
  have hk : ∀ j : Fin 26, (iblk m c 1 t : Vec Ideal S26x2048 (.f32)) (ix2 j (y 1))
      = V m c main_arg1 (ix2 j ((win0_2.blk t).view.emb y 1)) := fun j => by
    blk_simp [iblk, index_k]
    refine congrArg _ ?_
    blk_ext [index_k, index_o]
  have hd : (((win0_2.blk t).view.emb y 1).val : ℕ) = (y 1).val := by
    blk_simp [index_o]
  simp only [hx, hk, hd]

end Cert.Density

end
-- ==== Proof.Gather.lean ====
/-
  The reference's row lookup: for every row `b` and feature `j` it takes the whole row of the table whose number the
  index array holds at (b, j).
-/
module

public import proofs.«01_k».proof.Proof.Gen.ReferenceIdeal.Read
public import Idealize.ShloMosaic.Lib.Pointwise
public import Idealize.ShloMosaic.Lib.WordCmp

@[expose] public section

noncomputable section

namespace Cert.Density

open Cert.ReferenceIdeal Cert.ReferenceIdeal.Gen Idealize.ShloMosaic

/-- The lookup's dimension numbers. -/
abbrev rowDims : GatherDims S2049x2048 S1024x26x1 S1024x26x2048 :=
  gather_S2049x2048_S1024x26x1_S1024x26x2048_2_0_n_n_0_2_12048

/-- The table's row axis is the one the index array moves along. -/
theorem row_mem : (0 : Fin 2) ∈ rowDims.startIndexMap := List.mem_singleton.2 rfl

/-- The index that result element (b, j, d) reads is the one at (b, j). -/
theorem rowDims_index (b : Fin 1024) (j : Fin 26) (d : Fin 2048) :
    rowDims.siIdx (ix3 b j d) ⟨rowDims.startIndexMap.idxOf 0, List.idxOf_lt_length_iff.2 row_mem⟩ = ix3 b j (0 : Fin 1) := by
  funext a
  match a with
  | ⟨0, _⟩ => rfl
  | ⟨1, _⟩ => rfl
  | ⟨2, _⟩ => rfl

/-- Where the index array holds a table row's number `n` at (b, j), element (b, j, d) of the lookup is the table's element
    at row `n` and column `d`. -/
theorem gather_row_apply {α : Type} (x : S2049x2048.Idx → α) (idx : IVec S1024x26x1 32) (b : Fin 1024) (j : Fin 26)
    (d : Fin 2048) (n : Fin 2049) (h : idx (ix3 b j (0 : Fin 1)) = BitVec.ofNat 32 n.val) :
    Host.gather rowDims x idx (ix3 b j d) = x (ix2 n d) := by
  unfold Host.gather
  refine congrArg x (funext fun a => Fin.ext ?_)
  show rowDims.start (ix3 b j d) idx a + rowDims.batchCoord (ix3 b j d) a + rowDims.offCoord (ix3 b j d) a = _
  rw [GatherDims.batchCoord_eq_zero _ _ _ List.not_mem_nil, Nat.add_zero]
  unfold GatherDims.start
  revert a
  refine Fin.forall_fin_two.2 ⟨?_, ?_⟩
  · have hn := n.isLt
    have hi : (BitVec.ofNat 32 n.val).toInt = n.val := WordCmp.toInt_ofNat_of_lt (by norm_num; omega)
    rw [dif_pos row_mem, rowDims_index, h, hi,
      GatherDims.offCoord_eq_zero _ _ _ fun h => ((GatherDims.mem_sKept _ _).1 h).1 (List.mem_singleton.2 rfl)]
    show min n.val 2048 + 0 = n.val
    omega
  · rw [dif_neg (by decide), Nat.zero_add]
    rfl

end Cert.Density

end
-- ==== Proof.Reference.lean ====
/-
  What the reference computes: at row `b` and column `d`, the sum over the features of the feature's key times the table's
  element at the feature's level.
-/
module

public import proofs.«01_k».proof.Proof.Gather
public import proofs.«01_k».proof.Proof.Level
public import Idealize.ShloMosaic.Lib.ReduceAll
public import Idealize.ShloMosaic.Lib.Tactic.WordOmega

@[expose] public section

noncomputable section

namespace Cert.Density

open Cert.ReferenceIdeal Cert.ReferenceIdeal.Gen Cert.ReferenceIdeal.Read Idealize.ShloMosaic

variable (x : Vec Ideal S1024x26 (.f32)) (k : Vec Ideal S26x2048 (.f32)) (T : Vec Ideal S2049x2048 (.f32))

/-- The feature's row number before it is clipped is its level. -/
theorem word_apply (i : S1024x26.Idx) : val_main_v8 (F := Ideal) x i = BitVec.ofNat 32 (level (x i)) := by
  idx_vars i
  pointwise [val_main_v8, val_main_v7, val_main_v6, val_main_v5, val_main_v4, val_main_v3, val_main_v2, val_main_v1, val_main_v0,
    val_main_call0_v4, val_main_call0_v3, val_main_call0_v2, val_main_call0_v1, val_main_call0_v0, val_main_cst, val_main_cst_0,
    val_main_cst_1, val_main_cst_2, val_main_cst_3]
  show Ideal.fptosi 32 (Ideal.liftRound Ideal.roundHalfEven (Ideal.div (min (Ideal.ofBits .f32 0x3F800000#32)
    (max (Ideal.ofBits .f32 0x00000000#32) (x (ix2 i0 i1)))) ((1 : ℝ) : EReal) * Ideal.ofBits .f32 0x45000000#32)) = _
  rw [Ideal.div_coe one_ne_zero, Ideal.ofBits_one_f32, Ideal.ofBits_zero_f32, bits_2048, one_div_one, EReal.coe_one,
    mul_one]
  exact word32 _

/-- The signed order of small numbers' words is the numbers' order. -/
theorem slt_ofNat {a b : ℕ} (ha : a < 2 ^ 31) (hb : b < 2 ^ 31) :
    (BitVec.ofNat 32 a).slt (BitVec.ofNat 32 b) = decide (a < b) := by
  rw [BitVec.slt, WordCmp.toInt_ofNat_of_lt (w := 32) ha, WordCmp.toInt_ofNat_of_lt (w := 32) hb]
  exact decide_eq_decide.2 Nat.cast_lt

/-- Clipping a level's word to [0, 2048] does nothing. -/
theorem clip_word {n : ℕ} (h : n ≤ 2048) : IntOp.minsi 2048#32 (IntOp.maxsi 0#32 (BitVec.ofNat 32 n)) = BitVec.ofNat 32 n := by
  rw [IntOp.maxsi, slt_ofNat (by omega) (by omega), if_neg (by simp), IntOp.minsi, slt_ofNat (by omega) (by omega),
    if_neg (by simpa using h)]

/-- The row number the lookup uses, clipped and wrapped, is the level still. -/
theorem row_apply (i : S1024x26x1.Idx) :
    val_main_call3_v5 (F := Ideal) x i = BitVec.ofNat 32 (level (x (idx_main_call3_v5 i))) := by
  have h := level_le (x (idx_main_call3_v5 i))
  rw [val_main_call3_v5_apply]
  simp only [val_main_call3_v4_apply, val_main_call3_v3_apply, val_main_call3_v2_apply, val_main_call3_c_0_apply,
    val_main_call3_v1_apply, val_main_call3_v0_apply, val_main_call3_c_apply, val_main_v9_apply, val_main_call2_v4_apply,
    val_main_call2_v3_apply, val_main_call2_v2_apply, val_main_call2_v1_apply, val_main_call2_v0_apply, val_main_c_apply,
    val_main_c_4_apply, word_apply]
  generalize level (x (idx_main_call3_v5 i)) = n at h ⊢
  rw [clip_word h]
  word_omega

/-- The lookup's mask lets every element through. -/
theorem mask_apply (i : S1024x26.Idx) : val_main_call3_v12 (F := Ideal) x i = 1#1 := by
  refine Host.reduce_andi_one _ _ _ _ _ rfl fun i => ?_
  have h := level_le (x (idx_main_call3_v5 i))
  simp only [val_main_call3_v11_apply, val_main_call3_v10_apply, val_main_call3_v9_apply, val_main_call3_v8_apply, val_main_call3_v7_apply,
    val_main_call3_v6_apply, val_main_call3_c_1_apply, val_main_call3_c_2_apply, row_apply]
  generalize level (x (idx_main_call3_v5 i)) = n at h ⊢
  word_omega

/-- The table row of a feature's level. -/
def tableRow (v : EReal) : Fin 2049 := ⟨level v, Nat.lt_succ_of_le (level_le v)⟩

/-- The lookup's element (b, j, d) is the table's, at the row of the level of feature `j` of row `b`. -/
theorem taken_apply (b : Fin 1024) (j : Fin 26) (d : Fin 2048) :
    val_main_v10 (F := Ideal) x T (ix3 b j d) = T (ix2 (tableRow (x (ix2 b j))) d) := by
  rw [val_main_v10_apply, val_main_call3_v14_apply, mask_apply]
  refine gather_row_apply T (val_main_call3_v5 (F := Ideal) x) b j d (tableRow (x (ix2 b j))) ?_
  rw [row_apply, show idx_main_call3_v5 (ix3 b j (0 : Fin 1)) = ix2 b j from eq_ix2 _]
  rfl

/-- The key that multiplies element (b, j, d). -/
theorem key_apply (b : Fin 1024) (j : Fin 26) (d : Fin 2048) :
    val_main_v12 (F := Ideal) k (ix3 b j d) = k (ix2 j d) := by
  rw [val_main_v12_apply, val_main_v11_apply]
  exact congrArg k (eq_ix2 _)

/-- The reference's element: the sum of the keys times the table's elements. -/
theorem reference_apply (b : Fin 1024) (d : Fin 2048) :
    (val_main_v14 (F := Ideal) x k T (ix2 b d) : EReal)
      = ∑ j : Fin 26, k (ix2 j d) * T (ix2 (tableRow (x (ix2 b j))) d) := by
  rw [val_main_v14_apply]
  refine (congrArg (· + _) Ideal.ofBits_zero_f32).trans ((zero_add _).trans (Finset.sum_congr rfl fun j _ => ?_))
  rw [show idx_main_v14 (ix2 b d) j = ix3 b j d from eq_ix3 _, val_main_v13_apply, key_apply, taken_apply]
  rfl

end Cert.Density

end
-- ==== Proof.Precondition.lean ====
/-
  What the precondition says: the table is the thermometer code, and no key is plus infinity.
-/
module

public import proofs.«01_k».proof.Pre_thermometer
public import Idealize.ShloMosaic.Lib.Pointwise
public import Idealize.ShloMosaic.Lib.ReduceAll
public import Idealize.ShloMosaic.Lib.WordCmp

@[expose] public section

noncomputable section

namespace Cert.Density

open Cert.Pre_thermometer Idealize.ShloMosaic

/-- The f32 pattern `0xBF800000` is the real −1. -/
theorem bits_neg_one : Ideal.ofBits .f32 0xBF800000#32 = ((-1 : ℝ) : EReal) := by
  simp [Ideal.ofBits, Ideal.ieee, -EReal.coe_mul]; norm_num

/-- The f32 pattern `0x7F800000` is plus infinity. -/
theorem bits_top : Ideal.ofBits .f32 0x7F800000#32 = ⊤ := by
  simp [Ideal.ofBits, Ideal.ieee]

variable [Cert.Pre_thermometer.Facts] {x : Vec Ideal S1024x26 (.f32)} {k : Vec Ideal S26x2048 (.f32)} {T : Vec Ideal S2049x2048 (.f32)}

/-- Row `n` of the table is `n` ones followed by minus ones. -/
theorem table_apply (h : fn (F := Ideal) x k T = fun _ => 1#1) (n : Fin 2049) (d : Fin 2048) :
    T (ix2 n d) = (((if d.val < n.val then 1 else -1 : ℝ)) : EReal) := by
  obtain ⟨ht, -⟩ := IntOp.andi_eq_one.1 (congrFun h ix0)
  have e := Host.reduce_andi_all _ _ _ _ _ ht (ix2 n d)
  pointwise [fn_where] at e
  have hd := d.isLt
  have hn := n.isLt
  rw [WordCmp.ofBool_decide_eq_one_iff, Scalar.select, bits_neg_one] at e
  rw [e, ← EReal.coe_one]
  simp only [← apply_ite]
  exact congrArg _ (if_congr (WordCmp.cmpi_slt_ofNat_eq_one_iff (w := 32) (by omega) (by omega)) rfl rfl)

/-- Every key is below plus infinity. -/
theorem key_lt_top (h : fn (F := Ideal) x k T = fun _ => 1#1) (j : Fin 26) (d : Fin 2048) :
    (k (ix2 j d) : EReal) < ⊤ := by
  obtain ⟨-, hk⟩ := IntOp.andi_eq_one.1 (congrFun h ix0)
  have e := Host.reduce_andi_all _ _ _ _ _ hk (ix2 j d)
  pointwise at e
  rwa [WordCmp.ofBool_decide_eq_one_iff, bits_top] at e

end Cert.Density

end
-- ==== Proof.Equation.lean ====
/-
  The equation between the kernel's result and the reference's. Feature `j`'s key counts +1 where the column is below its
  level and −1 elsewhere; that is twice (1 where below, 0 elsewhere) less 1, so the signed sum is twice the gated sum less
  the sum of all keys. That settles finite keys. With some key minus infinity and none plus infinity, both sides are minus
  infinity where a minus infinity counts +1, and plus infinity elsewhere.
-/
module

public import proofs.«01_k».proof.Proof.Array
public import proofs.«01_k».proof.Proof.Reference
public import proofs.«01_k».proof.Proof.Precondition

@[expose] public section

noncomputable section

namespace Cert.Density

/-- The running sum of finite values is the sum of the first of them less what is subtracted at the start. -/
theorem run_coe (g : Fin 26 → ℝ) (h : ℝ) : ∀ (n : ℕ) (hn : n < 26),
    run (fun j => (g j : EReal)) (h : EReal) n hn = ((∑ j : Fin (n + 1), g ⟨j.val, by omega⟩ - h : ℝ) : EReal)
  | 0, _ => by rw [run, Fin.sum_univ_one, EReal.coe_sub]; rfl
  | n + 1, hn => by
    rw [run, run_coe g h n (Nat.lt_of_succ_lt hn), ← EReal.coe_add, Fin.sum_univ_castSucc (n := n + 1)]
    congr 1
    exact sub_add_eq_add_sub _ _ _

/-- A sum of reals, read as extended reals, is the sum of the reals read so. -/
theorem coe_sum (f : Fin 26 → ℝ) : ((∑ j, f j : ℝ) : EReal) = ∑ j, (f j : EReal) :=
  map_sum (⟨⟨Real.toEReal, EReal.coe_zero⟩, EReal.coe_add⟩ : ℝ →+ EReal) f Finset.univ

/-- For finite keys the kernel's element is the sum of the keys, each with the sign the thermometer code gives it. -/
theorem cell_coe (lev : Fin 26 → ℕ) (key : Fin 26 → ℝ) (d : ℕ) :
    cell lev (fun j => (key j : EReal)) d
      = ∑ j, (key j : EReal) * (((if d < lev j then 1 else -1 : ℝ)) : EReal) := by
  have hg : gated lev (fun j => (key j : EReal)) d = fun j => ((if d < lev j then key j else 0 : ℝ) : EReal) := by
    funext j
    rw [gated]
    split_ifs <;> rfl
  have hh : halfSum (fun j => (key j : EReal)) = (((∑ j, key j) * (1 / 2) : ℝ) : EReal) := by
    rw [halfSum, EReal.coe_mul, coe_sum]
  have hs : ∀ j, key j * (if d < lev j then 1 else -1 : ℝ) = (if d < lev j then key j else 0) * 2 - key j := fun j => by
    split_ifs <;> ring
  rw [cell, hg, hh, run_coe, ← EReal.coe_add]
  simp only [← EReal.coe_mul, ← coe_sum, hs, Finset.sum_sub_distrib, ← Finset.sum_mul]
  refine congrArg Real.toEReal ?_
  show (∑ j : Fin 26, _) - _ + ((∑ j : Fin 26, _) - _) = _
  ring

/-- A running sum that meets minus infinity is minus infinity. -/
theorem run_of_bot (on : Fin 26 → EReal) (h : EReal) (j : Fin 26) (hj : on j = ⊥) :
    ∀ (n : ℕ) (hn : n < 26), j.val ≤ n → run on h n hn = ⊥
  | 0, hn, hjn => by
    obtain rfl : j = ⟨0, hn⟩ := Fin.ext (Nat.le_zero.1 hjn)
    rw [run, hj, sub_eq_add_neg, EReal.bot_add]
  | n + 1, hn, hjn => by
    rw [run]
    rcases Nat.lt_or_eq_of_le hjn with hlt | heq
    · rw [run_of_bot on h j hj n (Nat.lt_of_succ_lt hn) (Nat.le_of_lt_succ hlt), EReal.bot_add]
    · obtain rfl : j = ⟨n + 1, hn⟩ := Fin.ext heq
      rw [hj, EReal.add_bot]

/-- A running sum that starts by subtracting minus infinity and never meets it is plus infinity. -/
theorem run_bot (on : Fin 26 → EReal) (ho : ∀ j, on j ≠ ⊥) : ∀ (n : ℕ) (hn : n < 26), run on ⊥ n hn = ⊤
  | 0, hn => by rw [run, sub_eq_add_neg, EReal.neg_bot, EReal.add_top_of_ne_bot (ho _)]
  | n + 1, hn => by rw [run, run_bot on ho n (Nat.lt_of_succ_lt hn), EReal.top_add_of_ne_bot (ho _)]

/-- A sum with a minus infinity in it is minus infinity. -/
theorem sum_of_bot (f : Fin 26 → EReal) (j : Fin 26) (hj : f j = ⊥) : ∑ j, f j = ⊥ := by
  rw [← Finset.add_sum_erase _ f (Finset.mem_univ j), hj, EReal.bot_add]

/-- A sum with a plus infinity and no minus infinity in it is plus infinity. -/
theorem sum_of_top (f : Fin 26 → EReal) (hf : ∀ j, f j ≠ ⊥) (j : Fin 26) (hj : f j = ⊤) : ∑ j, f j = ⊤ := by
  rw [← Finset.add_sum_erase _ f (Finset.mem_univ j), hj]
  exact EReal.top_add_of_ne_bot (Finset.sum_induction _ (· ≠ ⊥) (fun a b ha hb => EReal.add_ne_bot_iff.2 ⟨ha, hb⟩)
    EReal.zero_ne_bot fun j _ => hf j)

/-- The same where a key is minus infinity and none is plus infinity. -/
theorem cell_of_bot (lev : Fin 26 → ℕ) (key : Fin 26 → EReal) (hk : ∀ j, key j < ⊤) (j₀ : Fin 26) (h₀ : key j₀ = ⊥) (d : ℕ) :
    cell lev key d = ∑ j, key j * (((if d < lev j then 1 else -1 : ℝ)) : EReal) := by
  have hh : halfSum key = ⊥ := by rw [halfSum, sum_of_bot key j₀ h₀, EReal.bot_mul_coe_of_pos (by norm_num)]
  rw [cell, hh]
  by_cases hon : ∃ j, d < lev j ∧ key j = ⊥
  · obtain ⟨j, hd, hj⟩ := hon
    rw [run_of_bot _ _ j (by rw [gated, if_pos hd, hj]) 25 _ (by omega), EReal.bot_add,
      sum_of_bot _ j (by rw [if_pos hd, hj, EReal.coe_one, mul_one])]
  · have hoff : ∀ j, d < lev j → key j ≠ ⊥ := fun j hd hj => hon ⟨j, hd, hj⟩
    rw [run_bot _ (fun j => ?_), EReal.top_add_top, sum_of_top _ (fun j => ?_) j₀ ?_]
    · rw [if_neg (fun hd => hoff j₀ hd h₀), h₀, EReal.bot_mul_coe_of_neg (by norm_num)]
    · split_ifs with hd
      · rw [EReal.coe_one, mul_one]
        exact hoff j hd
      · rw [EReal.coe_neg, EReal.coe_one, mul_neg, mul_one]
        exact fun e => (hk j).ne (EReal.neg_eq_bot_iff.1 e)
    · rw [gated]
      split_ifs with hd
      · exact hoff j hd
      · exact EReal.zero_ne_bot

/-- Where no key is plus infinity the kernel's element is the sum of the keys, each with the sign the thermometer code
    gives it. -/
theorem cell_eq (lev : Fin 26 → ℕ) (key : Fin 26 → EReal) (hk : ∀ j, key j < ⊤) (d : ℕ) :
    cell lev key d = ∑ j, key j * (((if d < lev j then 1 else -1 : ℝ)) : EReal) := by
  by_cases h : ∃ j, key j = ⊥
  · exact cell_of_bot lev key hk h.choose h.choose_spec d
  · obtain ⟨r, rfl⟩ : ∃ r : Fin 26 → ℝ, key = fun j => (r j : EReal) :=
      ⟨fun j => (key j).toReal, funext fun j => (EReal.coe_toReal (hk j).ne fun e => h ⟨j, e⟩).symm⟩
    exact cell_coe lev r d

open Idealize.ShloMosaic Cert.KernelIdeal in
/-- Under the precondition the kernel's result is the reference's. -/
theorem result_eq [Cert.Pre_thermometer.Facts] {x : Vec Ideal S1024x26 (.f32)} {k : Vec Ideal S26x2048 (.f32)}
    {T : Vec Ideal Cert.ReferenceIdeal.S2049x2048 (.f32)} (h : Cert.Pre_thermometer.fn (F := Ideal) x k T = fun _ => 1#1) :
    result x k = Cert.ReferenceIdeal.Read.val_main_v14 (F := Ideal) x k T := by
  funext i
  obtain ⟨b, d, rfl⟩ : ∃ (b : Fin 1024) (d : Fin 2048), i = ix2 b d := ⟨i 0, i 1, by idx_vars i⟩
  refine Eq.trans ?_ (reference_apply x k T b d).symm
  simp only [table_apply h]
  exact cell_eq (fun j => level (x (ix2 b j))) (fun j => k (ix2 j d)) (fun j => key_lt_top h j d) d.val

end Cert.Density

end
-- ==== Proof.lean ====
/-
  The certificate: the kernel and the reference each run and leave their arguments as they were, the ideal program is the
  kernel read over the extended reals, and under the precondition the kernel and the reference leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_thermometer
public import proofs.«01_k».proof.Proof.Equation
public import Idealize.ShloMosaic.Lib.Quiescent
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The kernel on machine words runs, keeps its arguments and leaves every semaphore at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the table is the thermometer code and no key is plus infinity, the kernel and the reference leave the same
    result. -/
theorem algebraic : Cert.algebraic_KernelIdeal_ReferenceIdeal_pre_thermometer := by
  intro m ρ m' ρ' hpre hagree
  refine ⟨fun c => Cert.Density.result (Cert.KernelIdeal.Gen.V m c Cert.KernelIdeal.main_arg0)
      (Cert.KernelIdeal.Gen.V m c Cert.KernelIdeal.main_arg1),
    (θ_run Cert.KernelIdeal.defs _ _).mono (fun r h c => ⟨(h c).1.trans (Cert.Density.final m c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨h0, h1, h2⟩ := hagree c
  refine (Cert.ReferenceIdeal.Read.val_main_v14_eq m' c).trans ?_
  rw [h0, h1, h2]
  exact (Cert.Density.result_eq (hpre c)).symm

/-- All the claims, with the programs' stated side conditions. -/
theorem claim : Cert.Claim :=
  ⟨Cert.Kernel.Gen.facts, Cert.KernelIdeal.Gen.facts, Cert.ReferenceIdeal.Gen.facts, Cert.Pre_thermometer.Gen.facts,
    frame_kernel, frame_ideal, fun m ρ _ => frame_ideal m ρ trivial, frame_reference, fun m ρ _ => frame_reference m ρ trivial,
    trivial, algebraic⟩

end Cert.Proof

end
